-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x512 : Shape := ⟨2, ![8192, 512]⟩
abbrev S4194304 : Shape := ⟨1, ![4194304]⟩
abbrev S16384 : Shape := ⟨1, ![16384]⟩
abbrev S_ : Shape := ⟨0, ![]⟩
abbrev S16 : Shape := ⟨1, ![16]⟩

abbrev nBuf : Table → Nat
  | .hbm => 4
  | .local .scVector .vmem => 2
  | _ => 0

abbrev bufTy : (tb : Table) → Fin (nBuf tb) → BufTy
  | .hbm, ⟨0, _⟩ => ⟨S8192x512, .f32⟩
  | .hbm, ⟨1, _⟩ => ⟨S4194304, .f32⟩
  | .hbm, ⟨2, _⟩ => ⟨S4194304, .i32⟩
  | .hbm, ⟨3, _⟩ => ⟨S8192x512, .i32⟩
  | .local .scVector .vmem, ⟨0, _⟩ => ⟨S16384, .f32⟩
  | .local .scVector .vmem, ⟨1, _⟩ => ⟨S16384, .i32⟩
  | _, _ => ⟨S8192x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c8_i32 : BitVec 32 := 8#32
  let v3 : BitVec 32 := Scalar.addi c0_i32_0 c8_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v2 : BitVec 32 := Scalar.muli v1 c131072_i32
  let c0_i32_0 : BitVec 32 := 0#32
  let c1_i32 : BitVec 32 := 1#32
  let arg8 : BitVec 32 := Scf.iv c0_i32_0 c1_i32 k0_t1
  let c16384_i32 : BitVec 32 := 16384#32
  let v5 : BitVec 32 := Scalar.muli arg8 c16384_i32
  let v6 : BitVec 32 := Scalar.addi v2 v5
  ![v6.toNat]
@[reducible] def k0_t2_loop : Scf.Loop 32 :=
  let c0_i32_3 : BitVec 32 := 0#32
  let c1024_i32 : BitVec 32 := 1024#32
  let v11 : BitVec 32 := Scalar.addi c0_i32_3 c1024_i32
  let c1_i32_4 : BitVec 32 := 1#32
  ⟨c0_i32_3, v11, c1_i32_4⟩
def k0_off2 (k0_t2 : Fin k0_t2_loop.trips) : Fin 1 → Nat :=
  let c0_i32_3 : BitVec 32 := 0#32
  let c1_i32_4 : BitVec 32 := 1#32
  let arg10 : BitVec 32 := Scf.iv c0_i32_3 c1_i32_4 k0_t2
  let c16_i32 : BitVec 32 := 16#32
  let v17 : BitVec 32 := Scalar.muli arg10 c16_i32
  let v18 : Index := Scalar.indexCast v17
  ![v18.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x512 : Shape := ⟨2, ![8192, 512]⟩
abbrev S_ : Shape := ⟨0, ![]⟩
abbrev S64 : Shape := ⟨1, ![64]⟩
abbrev S1 : Shape := ⟨1, ![1]⟩
abbrev S65 : Shape := ⟨1, ![65]⟩
abbrev S8192x512x1 : Shape := ⟨3, ![8192, 512, 1]⟩
abbrev S1x1x64 : Shape := ⟨3, ![1, 1, 64]⟩
abbrev S8192x512x64 : Shape := ⟨3, ![8192, 512, 64]⟩

abbrev nBuf : Space → Nat
  | .hbm => 50
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S1, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S1, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S1, .f32⟩
  | .hbm, ⟨23, _⟩ => ⟨S65, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192x512, .f32⟩
  | .hbm, ⟨31, _⟩ => ⟨S8192x512, .f32⟩
  | .hbm, ⟨32, _⟩ => ⟨S8192x512x1, .f32⟩
  | .hbm, ⟨33, _⟩ => ⟨S64, .f32⟩
  | .hbm, ⟨34, _⟩ => ⟨S1x1x64, .f32⟩
  | .hbm, ⟨35, _⟩ => ⟨S8192x512x64, .f32⟩
  | .hbm, ⟨36, _⟩ => ⟨S8192x512x64, .f32⟩
  | .hbm, ⟨37, _⟩ => ⟨S8192x512x64, .i1⟩
  | .hbm, ⟨38, _⟩ => ⟨S64, .f32⟩
  | .hbm, ⟨39, _⟩ => ⟨S1x1x64, .f32⟩
  | .hbm, ⟨40, _⟩ => ⟨S8192x512x64, .f32⟩
  | .hbm, ⟨41, _⟩ => ⟨S8192x512x64, .f32⟩
  | .hbm, ⟨42, _⟩ => ⟨S8192x512x64, .i1⟩
  | .hbm, ⟨43, _⟩ => ⟨S8192x512x64, .i1⟩
  | .hbm, ⟨44, _⟩ => ⟨S8192x512x64, .i8⟩
  | .hbm, ⟨45, _⟩ => ⟨S8192x512x64, .i32⟩
  | .hbm, ⟨46, _⟩ => ⟨S_, .i8⟩
  | .hbm, ⟨47, _⟩ => ⟨S_, .i32⟩
  | .hbm, ⟨48, _⟩ => ⟨S8192x512, .i8⟩
  | .hbm, ⟨49, _⟩ => ⟨S8192x512, .i32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_cst : Ref sig .tc := ⟨.hbm, 6, rfl⟩
abbrev main_call0_v3 : Ref sig .tc := ⟨.hbm, 7, rfl⟩
abbrev main_call0_v4 : Ref sig .tc := ⟨.hbm, 8, rfl⟩
abbrev main_call0_cst_0 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_v0 : Ref sig .tc := ⟨.hbm, 23, rfl⟩
abbrev main_cst_1 : Ref sig .tc := ⟨.hbm, 24, rfl⟩
abbrev main_cst_2 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_call2_v0 : Ref sig .tc := ⟨.hbm, 45, rfl⟩
abbrev main_call2_c : Ref sig .tc := ⟨.hbm, 46, rfl⟩
abbrev main_call2_c_0 : Ref sig .tc := ⟨.hbm, 47, rfl⟩
abbrev main_call2_v1_0 : Ref sig .tc := ⟨.hbm, 48, rfl⟩
abbrev main_v15 : Ref sig .tc := ⟨.hbm, 49, rfl⟩

abbrev nD : Nat := 1
abbrev τ : Topo := Topo.v7x

variable {F : FTy → Type} [FloatOps F]
-- ==== Proof.KernelIdeal.Task.lean ====
/-
  What ONE vector subcore's task of the kernel does, with the values it computes.

  The flat argument (4194304 elements) is cut into 32 stretches of 131072 elements, one for each vector subcore, and each stretch
  into 8 chunks of 16384. A task handles its chunks in turn: it copies the chunk into its first scratch, turns it
  into tokens sixteen lanes at a time into its second scratch, and copies that scratch out to the same chunk of the
  result. Each copy is waited for before the next operation, so the task needs no schedule: the invariant of the outer
  loop holds the chunks already written at their tokens and the others as they were, that of the inner loop holds the
  lanes already turned.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are distinct and outlive the call, and no subcore shares a task's buffers. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and their chunks -/

/-- The argument, the flat argument, the flat result and the result, as locations of device `d`. -/
abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- The kernel's operands, as the body table passes them: the flat argument, the flat result, the two scratches. -/
abbrev xW : Memref sig .scVector .hbm S4194304 .f32 := Memref.whole main_v0_scv
abbrev oW : Memref sig .scVector .hbm S4194304 .i32 := Memref.whole main_v1_scv
abbrev iW : Memref sig .scVector .vmem S16384 .f32 := Memref.whole cc0_scratch0
abbrev tW : Memref sig .scVector .vmem S16384 .i32 := Memref.whole cc0_scratch1

/-- Chunk `k` of the task at grid point `L`: 16384 consecutive elements of a flat array. -/
abbrev chunkRect (L : grid0.Coords) (k : Fin k0_t1_loop.trips) : Rect S4194304 :=
  Rect.unit (s := S4194304) (k0_off1 L k) S16384.size (k0_off1_inb L k)
abbrev chunk (L : grid0.Coords) (k : Fin k0_t1_loop.trips) : Finset S4194304.Idx := (chunkRect L k).set
/-- The chunk of the flat argument and of the flat result, as the task slices them. -/
abbrev xC (L : grid0.Coords) (k : Fin k0_t1_loop.trips) : Memref sig .scVector .hbm S16384 .f32 := (xW : Memref sig .scVector .hbm S4194304 .f32).slice (chunkRect L k) (fun _ => rfl)
abbrev oC (L : grid0.Coords) (k : Fin k0_t1_loop.trips) : Memref sig .scVector .hbm S16384 .i32 := (oW : Memref sig .scVector .hbm S4194304 .i32).slice (chunkRect L k) (fun _ => rfl)
/-- Trip `t`'s sixteen lanes of a scratch. -/
abbrev laneRect (t : Fin k0_t2_loop.trips) : Rect S16384 := Rect.unit (s := S16384) (k0_off2 t) S16.size (k0_off2_inb t)

/-! ## The values -/

variable (m : (ℓ : Loc nD τ sig) → Buf (Elt F) ℓ)

/-- The flat argument: the argument's elements in row-major order. -/
def flat (d : Dev nD) : Buf (Elt F) (xLoc d) := fun j => shapeCast S4194304 (m (aLoc d) : S8192x512.Idx → F .f32) shapeCasts_S8192x512_S4194304 j

variable [FloatOps F]

/-- One element's token: the element clamped between the two words' values, times 64, truncated. -/
def token (v : F .f32) : BitVec 32 :=
  FloatOps.fptosi 32 (FloatOps.mulf (FloatOps.minimumf (FloatOps.maximumf v (Scalar.ofBits .f32 0x358637BD#32)) (Scalar.ofBits .f32 0x3F7FFFEF#32))
    (Scalar.ofBits .f32 0x42800000#32))

/-- What the kernel leaves in the flat result: each element's token. -/
def tokens (d : Dev nD) : Buf (Elt F) (oLoc d) := fun j => token (flat m d j : F .f32)

/-- The store's payload is, lane by lane, the token of what was loaded. -/
theorem pay_apply (v : Vec F S16 .f32) (x : S16.Idx) : k0_pay1 v x = token (v x) := by
  unfold k0_pay1
  simp only [shapeCast_self]
  rfl

/-! ## The task -/

section Tile

variable (d : Dev nD) (L : grid0.Coords)

abbrev cV (L : grid0.Coords) : Fin τ.nSC := (L 0).castLE hcore0
abbrev jV (L : grid0.Coords) : Fin τ.nSub := (L 1).castLE hsub0
abbrev thr : Thread nD τ := V d (cV L) (jV L)

/-- The two copies' semaphores on the task's subcore. -/
abbrev inCell (d : Dev nD) (c : Fin τ.nSC) (i : Fin τ.nSub) : GSem nD τ sig := (V d c i, .dma cc0_scratch2.sem)
abbrev outCell (d : Dev nD) (c : Fin τ.nSC) (i : Fin τ.nSub) : GSem nD τ sig := (V d c i, .dma cc0_scratch3.sem)

/-- A chunk of the flat argument at `f`, of the flat result at `f`. -/
abbrev xChunk (k : Fin k0_t1_loop.trips) (f : Buf (Elt F) (xLoc d)) : sProp 𝕄 := xLoc d ↦[chunk L k]{fullShare} f
abbrev oChunk (k : Fin k0_t1_loop.trips) (f : Buf (Elt F) (oLoc d)) : sProp 𝕄 := oLoc d ↦[chunk L k]{fullShare} f

omit [FloatOps F] in
theorem chunk_x (k : Fin k0_t1_loop.trips) : (xC L k).view.set = chunk L k := View.set_slice_whole (main_v0_scv : Ref sig .scVector) (chunkRect L k)
omit [FloatOps F] in
theorem chunk_o (k : Fin k0_t1_loop.trips) : (oC L k).view.set = chunk L k := View.set_slice_whole (main_v1_scv : Ref sig .scVector) (chunkRect L k)

omit [FloatOps F] in
/-- A chunk as the task's slice addresses it is that chunk of the TensorCore's array. -/
theorem pts_x (k : Fin k0_t1_loop.trips) (f : Buf (Elt F) (xLoc d)) :
    ((xC L k).view.loc (thr d L) ↦[(xC L k).view.set]{fullShare} f : sProp 𝕄) = xChunk d L k f := by
  rw [chunk_x]
omit [FloatOps F] in
theorem pts_o (k : Fin k0_t1_loop.trips) (f : Buf (Elt F) (oLoc d)) :
    ((oC L k).view.loc (thr d L) ↦[(oC L k).view.set]{fullShare} f : sProp 𝕄) = oChunk d L k f := by
  rw [chunk_o]

/-- The task's chunks of the flat result before trip `n`: the first `n` at their tokens, the others as launched. -/
def written (n : ℕ) : sProp 𝕄 :=
  bigSep Finset.univ fun k : Fin k0_t1_loop.trips => oChunk d L k (if k.val < n then tokens m d else m (oLoc d))
/-- The task's chunks of the flat argument. -/
def fetched : sProp 𝕄 := bigSep Finset.univ fun k : Fin k0_t1_loop.trips => xChunk d L k (flat m d)

omit [FloatOps F] in
/-- The chunks of the argument are one of them and the others. -/
theorem fetched_take (k : Fin k0_t1_loop.trips) :
    fetched m d L = iprop(xChunk d L k (flat m d) ∗ bigSep (Finset.univ.erase k) fun k => xChunk d L k (flat m d)) := by
  unfold fetched; exact SparseCore.bigSep_erase' (Finset.mem_univ k)

/-- Before trip `k` the chunks of the result are chunk `k` as launched and the others; -/
theorem written_take (k : Fin k0_t1_loop.trips) :
    written m d L k.val = iprop(oChunk d L k (m (oLoc d))
      ∗ bigSep (Finset.univ.erase k) fun k' => oChunk d L k' (if k'.val < k.val then tokens m d else m (oLoc d))) := by
  unfold written
  rw [SparseCore.bigSep_erase' (Finset.mem_univ k), if_neg (lt_irrefl _)]

/-- after it, chunk `k` at its tokens and the same others. -/
theorem written_put (k : Fin k0_t1_loop.trips) :
    written m d L (k.val + 1) = iprop(oChunk d L k (tokens m d)
      ∗ bigSep (Finset.univ.erase k) fun k' => oChunk d L k' (if k'.val < k.val then tokens m d else m (oLoc d))) := by
  unfold written
  have others : (bigSep (Finset.univ.erase k) fun k' => oChunk d L k' (if k'.val < k.val + 1 then tokens m d else m (oLoc d)) : sProp 𝕄)
      = bigSep (Finset.univ.erase k) fun k' => oChunk d L k' (if k'.val < k.val then tokens m d else m (oLoc d)) := by
    refine bigSep_congr fun k' hk' => ?_
    have hne : k'.val ≠ k.val := fun e => Finset.ne_of_mem_erase hk' (Fin.ext e)
    by_cases h : k'.val < k.val
    · rw [if_pos h, if_pos (by omega)]
    · rw [if_neg h, if_neg (by omega)]
  rw [SparseCore.bigSep_erase' (Finset.mem_univ k), if_pos (Nat.lt_succ_self _), others]

omit [FloatOps F] in
/-- The inner trips' lanes are the whole scratch. -/
theorem lanes_all : S16384.size 0 = 16 * k0_t2_loop.trips := by decide +kernel

/-- One inner trip: with the lanes below `16 * t` at the tokens of `X`, storing the payload of lanes `16 * t` to `16 * t + 15`
    of `X` there brings the lanes below `16 * (t + 1)` to the tokens of `X`. -/
theorem lane_step (t : Fin k0_t2_loop.trips) (X : Buf (Elt F) ((thr d L).loc cc0_scratch0)) (g : Buf (Elt F) ((thr d L).loc cc0_scratch1))
    (hg : ∀ j : S16384.Idx, (j 0).val < 16 * t.val → g j = token (X j : F .f32)) (j : S16384.Idx) (hj : (j 0).val < 16 * (t.val + 1)) :
    (tW : Memref sig .scVector .vmem S16384 .i32).view.writes (Elt F) g
        [⟨laneRect t, k0_pay1 ((iW : Memref sig .scVector .vmem S16384 .f32).view.readAt (Elt F) (laneRect t).toLoadRect X)⟩] j
      = token (X j : F .f32) := by
  by_cases hmem : j ∈ (laneRect t).set
  · obtain ⟨x, rfl⟩ := (laneRect t).exists_idx_of_mem hmem
    refine ((tW : Memref sig .scVector .vmem S16384 .i32).view.read_writes_cons_emb (Val := Elt F) g (laneRect t) _ [] x).trans ?_
    exact pay_apply _ x
  · have old := (tW : Memref sig .scVector .vmem S16384 .i32).view.read_writes_apply_of_forall_not_mem (Val := Elt F) g j
      [⟨laneRect t, k0_pay1 ((iW : Memref sig .scVector .vmem S16384 .f32).view.readAt (Elt F) (laneRect t).toLoadRect X)⟩]
    rw [List.forall_mem_singleton] at old
    refine (old hmem).trans ?_
    refine hg j ?_
    by_contra hlt
    refine hmem (Rect.mem_set_unit.mpr fun a => ?_)
    obtain rfl : a = 0 := Subsingleton.elim _ _
    rw [k0_off2_eq]
    show 16 * t.val ≤ (j 0).val ∧ (j 0).val < 16 * t.val + 16
    omega

omit [FloatOps F] in
/-- What a copy over the whole of a slice of an array leaves at an element of the slice: the copied element. -/
theorem slice_lands {κ : _} (b : Ref sig κ) (r : Rect b.ty.shape) (f : b.ty.Contents (Elt F)) (w : r.shape.Idx → Elt F b.ty.elt) (x : r.shape.Idx) :
    ((View.whole b).slice r).writes (Elt F) f [⟨Rect.whole r.shape, w⟩] (r.emb x) = w x := by
  have h := ((View.whole b).slice r).read_writes_cons_emb (Val := Elt F) f (Rect.whole r.shape) w [] x
  rw [Rect.emb_whole_apply] at h
  exact h

/-- What the copy out lands in a chunk of the result: the chunk's tokens, when the second scratch holds the tokens of the
    first and the first holds the chunk of the argument. -/
theorem chunk_lands (k : Fin k0_t1_loop.trips) (fi : Buf (Elt F) ((thr d L).loc cc0_scratch0)) (g : Buf (Elt F) ((thr d L).loc cc0_scratch1))
    (hg : ∀ j : S16384.Idx, g j = token ((View.write (Elt F) (iW : Memref sig .scVector .vmem S16384 .f32).view fi
      ((xC L k).view.read (Elt F) (flat m d)) Finset.univ) j : F .f32)) (j : S4194304.Idx) (hj : j ∈ chunk L k) :
    (oC L k).view.writes (Elt F) (m (oLoc d)) [⟨Rect.whole S16384, (tW : Memref sig .scVector .vmem S16384 .i32).view.read (Elt F) g⟩] j = tokens m d j := by
  obtain ⟨x, rfl⟩ := (chunkRect L k).exists_idx_of_mem hj
  rw [View.write_whole_univ] at hg
  exact (slice_lands (F := F) (main_v1_scv : Ref sig .scVector) (chunkRect L k) (m (oLoc d)) g x).trans (hg x)

/-- The inner loop's invariant: the first scratch at `X`, the second's lanes below `16 * t` at the tokens of `X`. -/
def inner (X : Buf (Elt F) ((thr d L).loc cc0_scratch0)) (t : Nat) (_ : BitVec 32) : sProp 𝕄 :=
  iprop(((iW : Memref sig .scVector .vmem S16384 .f32).view.loc (thr d L) ↦{fullShare} X)
    ∗ ∃ g : Buf (Elt F) ((thr d L).loc cc0_scratch1), ⌜∀ j : S16384.Idx, (j 0).val < 16 * t → g j = token (X j : F .f32)⌝
      ∗ (tW : Memref sig .scVector .vmem S16384 .i32).view.loc (thr d L) ↦{fullShare} g)

/-- The outer loop's invariant: the argument's chunks, the result's with the first `n` written, both scratches, both
    semaphores at zero, what the subcore owes, and the evidence that its waits are admissible. -/
def outer (O : CellTallies nD τ sig (HIx 1)) (W : Waits sig (HIx 1)) (n : Nat) (_ : BitVec 32) : sProp 𝕄 :=
  iprop(Transfers.MayWaits (thr d L) (none : HIx 1) O
    ∗ fetched m d L ∗ written m d L n
    ∗ (∃ f, (iW : Memref sig .scVector .vmem S16384 .f32).view.loc (thr d L) ↦{fullShare} f)
    ∗ (∃ f, (tW : Memref sig .scVector .vmem S16384 .i32).view.loc (thr d L) ↦{fullShare} f)
    ∗ semVal (inCell d (cV L) (jV L)) 0 ∗ semVal (outCell d (cV L) (jV L)) 0
    ∗ ∃ W', ⌜∀ p ∈ W', p ∈ W ∨ p.2 = none⌝ ∗ owes (thr d L) O W')

theorem body (O : CellTallies nD τ sig (HIx 1)) (W : Waits sig (HIx 1)) :
    outer m d L O W 0 0#32
      ⊢ wp frame (wpE (defs₀ (F := F)) 𝒱₀ (thr d L) none) Set.univ
          (cc0__sc_body L xW (Memref.isWhole_whole _) oW (Memref.isWhole_whole _) iW (Memref.isWhole_whole _) tW (Memref.isWhole_whole _)
            cc0_scratch2 cc0_scratch3)
          fun _ => outer m d L O W k0_t1_loop.trips 0#32 := by
  simp only [cc0__sc_body_eq_skeleton]; unfold cc0__sc_body_skel
  iintro H
  sl_exec
  sl_for (outer m d L O W) $$ [H]
  case region =>
    intro k _
    unfold outer
    rw [fetched_take m d L k, written_take m d L k]
    iintro ⟨Hmw, ⟨Hx, Hxs⟩, ⟨Ho, Hos⟩, ⟨%fi, Hi⟩, ⟨%ft, Ht⟩, Hin, Hout, %W', %hW', HO⟩
    ihave Hx := (Entails.of_eq (pts_x (F := F) d L k _).symm) $$ Hx
    ihave Ho := (Entails.of_eq (pts_o (F := F) d L k _).symm) $$ Ho
    sl_exec
    sl_for (inner d L (View.write (Elt F) (iW : Memref sig .scVector .vmem S16384 .f32).view fi (body.sl.dma0 m d L k) Finset.univ)) $$ [Hi Ht]
    case region =>
      intro t _
      unfold inner
      iintro ⟨Hi, %g, %hg, Ht⟩
      sl_exec
      sl_step
      isplitl [Hi]; · iexact Hi
      iexists _; isplitr
      rotate_left
      · iexact Ht
      ipureintro; exact lane_step d L t _ g hg
    · unfold inner
      isplitl [Hi]; · iexact Hi
      iexists ft; isplitr
      · ipureintro; intro j hj; exact absurd hj (by simp)
      · iexact Ht
    iintro %_ HI
    unfold inner
    icases HI with ⟨Hi, %g, %hg, Ht⟩
    sl_exec
    sl_step
    isplitl [Hmw]; · iexact Hmw
    isplitl [Hx Hxs]
    · isplitl [Hx]
      · iapply (Entails.of_eq (pts_x (F := F) d L k _)); iexact Hx
      · iexact Hxs
    isplitl [Ho Hos]
    · rw [written_put]
      isplitl [Ho]
      · have all : ∀ j : S16384.Idx, g j = token ((View.write (Elt F) (iW : Memref sig .scVector .vmem S16384 .f32).view fi
            ((xC L k).view.read (Elt F) (flat m d)) Finset.univ) j : F .f32) := fun j => hg j (lt_of_lt_of_eq (j 0).isLt lanes_all)
        have lands := chunk_lands m d L k fi g all
        have landed : (oLoc d ↦[chunk L k]{fullShare} (oC L k).view.writes (Elt F) (m (oLoc d))
            [⟨Rect.whole S16384, (tW : Memref sig .scVector .vmem S16384 .i32).view.read (Elt F) g⟩] : sProp 𝕄) = oChunk d L k (tokens m d) :=
          pointsTo_congr lands
        rw [← landed, ← chunk_o]
        iexact Ho
      · iexact Hos
    isplitl [Hi]; · iexists _; iexact Hi
    isplitl [Ht]; · iexists _; iexact Ht
    isplitl [Hin]; · iexact Hin
    isplitl [Hout]; · iexact Hout
    iexists _; isplitr
    rotate_left
    · iexact HO
    ipureintro; intro p hp
    rcases Finset.mem_insert.mp hp with rfl | hp
    · exact .inr rfl
    rcases Finset.mem_insert.mp hp with rfl | hp
    · exact .inr rfl
    · exact hW' p hp
  · iexact H
  iintro %_ HI
  sl_exec
  sl_step
  iexact HI

end Tile

end Cert.KernelIdeal.Run

end
-- ==== Proof.KernelIdeal.Launch.lean ====
/-
  The whole program's run: the launch theorem's obligations for the one SparseCore call, @main on the TensorCore, and
  what the run leaves: the argument at its launch contents, the result at every element's token, every semaphore at zero.

  The call hands every vector subcore its eight chunks of the flat argument and of the flat result and takes them back,
  the result's at their tokens. The 2 * 16 * 8 chunks are the flat arrays, cut. The subcores signal nobody, so the
  launch's ghost state is the handshakes' alone.
-/
module

public import proofs.«01_k».proof.Proof.KernelIdeal.Task

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## One subcore's task, from what the call hands it -/

section Tile

variable (d : Dev nD) (L : grid0.Coords)

omit [FloatOps F] in
/-- The two copies' semaphores are among the subcore's own. -/
theorem ownSems0_task :
    (ownSems0 (thr d L) : sProp 𝕄)
      = iprop(semVal (inCell d (cV L) (jV L)) 0 ∗ semVal (outCell d (cV L) (jV L)) 0
          ∗ bigSep (((ownCells (thr d L)).erase (inCell d (cV L) (jV L))).erase (outCell d (cV L) (jV L))) fun g => semVal g 0) := by
  unfold SparseCore.Cfg.ownSems0
  rw [SparseCore.bigSep_erase' ((mem_ownCells (g := inCell d (cV L) (jV L))).mpr ⟨rfl, by
      show (SemLoc.dma cc0_scratch2.sem : SemLoc sig).isScoped .scVector = true; decide⟩),
    SparseCore.bigSep_erase' (Finset.mem_erase.mpr ⟨by simp [inCell, outCell]; decide, (mem_ownCells (g := outCell d (cV L) (jV L))).mpr ⟨rfl, by
      show (SemLoc.dma cc0_scratch3.sem : SemLoc sig).isScoped .scVector = true; decide⟩⟩)]

omit [FloatOps F] in
/-- The two scratches are among the subcore's own buffers. -/
theorem ownBufs_task :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The subcore's task, from its chunks and its own buffers and semaphores: the chunks come back, the result's at their
    tokens. -/
theorem task (O : CellTallies nD τ sig (HIx 1)) (W : Waits sig (HIx 1)) (hO : ∀ g, O g none = 0) :
    iprop(levAts (K (F := F)).L (K (F := F)).lev ∗ emp ∗ (fetched m d L ∗ written m d L 0)
        ∗ scopedBufs (thr d L) ∗ scopedSems0 (thr d L) ∗ owes (thr d L) O W)
      ⊢ wp frame (wpE (defs₀ (F := F)) 𝒱₀ (thr d L) none) Set.univ
          (cc0__sc_body L xW (Memref.isWhole_whole _) oW (Memref.isWhole_whole _) iW (Memref.isWhole_whole _) tW (Memref.isWhole_whole _)
            cc0_scratch2 cc0_scratch3)
          fun _ => iprop((fetched m d L ∗ written m d L k0_t1_loop.trips) ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V launchFacts d (cV L) (jV L), SparseCore.Cfg.scopedSems0_V (Val := Elt F) d (cV L) (jV L), ownSems0_task, ownBufs_task]
  iintro ⟨#Hlv, -, ⟨Hx, Ho⟩, ⟨Hi, Ht, Hbufs⟩, ⟨Hin, Hout, Hsems⟩, HO⟩
  ihave Hmw := ((K (F := F)).mayWaits_none (thr := thr d L) hO) $$ Hlv
  iapply (wp_wand_r frame _ _ (Q := fun _ => outer m d L O W k0_t1_loop.trips 0#32))
  isplitl [Hmw Hx Ho Hi Ht Hin Hout HO]
  · iapply (body m d L O W)
    unfold outer
    isplitl [Hmw]; · iexact Hmw
    isplitl [Hx]; · iexact Hx
    isplitl [Ho]; · iexact Ho
    isplitl [Hi]; · iexact Hi
    isplitl [Ht]; · iexact Ht
    isplitl [Hin]; · iexact Hin
    isplitl [Hout]; · iexact Hout
    iexists W; isplitr
    · ipureintro; exact fun p hp => .inl hp
    · iexact HO
  iintro %_ H
  unfold outer
  icases H with ⟨-, Hx, Ho, Hi, Ht, Hin, Hout, %W', %hW', HO⟩
  isplitl [Hx Ho]
  · isplitl [Hx]; · iexact Hx
    iexact Ho
  isplitl [Hi Ht Hbufs]
  · isplitl [Hi]; · iexact Hi
    isplitl [Ht]; · iexact Ht
    iexact Hbufs
  isplitl [Hin Hout Hsems]
  · isplitl [Hin]; · iexact Hin
    isplitl [Hout]; · iexact Hout
    iexact Hsems
  iexists W'; isplitr
  · ipureintro; exact fun p hp => (hW' p hp).imp_right Or.inl
  · iexact HO

end Tile

/-! ## What the call carries -/

/-- The grid point of vector subcore `s` of SparseCore `c`. -/
def coords (c : Fin (grid0.bound 0)) (s : Fin (grid0.bound 1)) : grid0.Coords :=
  fun | 0 => c | 1 => s | ⟨_ + 2, h⟩ => absurd h (Nat.not_lt.2 (Nat.le_add_left _ _))

/-- Each subcore is handed its chunks and hands them back, the result's at their tokens; a SparseCore's sequencer is
    handed its subcores' and hands them back. -/
def P : (K (F := F)).Pay (nD := nD) (Val := Elt F) (Name := ℕ) (U := UU) where
  st := fun q d c => match q with | 0 => bigSep Finset.univ fun i : Fin (grid0.bound 1) => iprop(fetched m d (coords c i) ∗ written m d (coords c i) 0)
  dn := fun q d c => match q with | 0 => bigSep Finset.univ fun i : Fin (grid0.bound 1) => iprop(fetched m d (coords c i) ∗ written m d (coords c i) k0_t1_loop.trips)
  go := fun q d c i => match q with | 0 => iprop(fetched m d (coords c i) ∗ written m d (coords c i) 0)
  td := fun q d c i => match q with | 0 => iprop(fetched m d (coords c i) ∗ written m d (coords c i) k0_t1_loop.trips)
  x := fun _ _ => iprop(emp)

instance fetched_storable (d : Dev nD) (L : grid0.Coords) : BI.Storable (upEmb : UEmb _ 𝕄) (fetched m d L) := by
  unfold fetched; infer_instance
instance written_storable (d : Dev nD) (L : grid0.Coords) (n : ℕ) : BI.Storable (upEmb : UEmb _ 𝕄) (written m d L n) := by
  unfold written; infer_instance
instance P_storable : (P (F := F) m).IsStorable where
  st q d c := match q with
    | 0 => (inferInstance : BI.Storable (upEmb : UEmb _ 𝕄)
        (bigSep Finset.univ fun i : Fin (grid0.bound 1) => iprop(fetched m d (coords c i) ∗ written m d (coords c i) 0)))
  dn q d c := match q with
    | 0 => (inferInstance : BI.Storable (upEmb : UEmb _ 𝕄)
        (bigSep Finset.univ fun i : Fin (grid0.bound 1) => iprop(fetched m d (coords c i) ∗ written m d (coords c i) k0_t1_loop.trips)))
  go q d c i := match q with
    | 0 => (inferInstance : BI.Storable (upEmb : UEmb _ 𝕄) iprop(fetched m d (coords c i) ∗ written m d (coords c i) 0))
  td q d c i := match q with
    | 0 => (inferInstance : BI.Storable (upEmb : UEmb _ 𝕄) iprop(fetched m d (coords c i) ∗ written m d (coords c i) k0_t1_loop.trips))

theorem vecSplit : (K (F := F)).VecSplit' (P m) 0 := by
  intro d c
  show (P m).st 0 d c ⊢ |={Set.univ}=> iprop((P m).st 0 d c ∗ ((P m).dn 0 d c -∗ (P m).dn 0 d c))
  iintro H; imodintro
  isplitl [H]; · iexact H
  iintro H; iexact H

theorem defs₀_vector (c : Fin τ.nSC) (s : Fin τ.nSub) :
    defs₀ (F := F) (.scVector c s) 0 ()
      = SparseCore.onTile hcore0 hsub0 (fun c s => cc0__sc_body (coords c s)
          xW (Memref.isWhole_whole _) oW (Memref.isWhole_whole _) iW (Memref.isWhole_whole _) tW (Memref.isWhole_whole _) cc0_scratch2 cc0_scratch3) ⟨⟩ c s := rfl

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact task m d (coords ⟨_, hc.1⟩ ⟨_, hc.2⟩) O W hO

end Cert.KernelIdeal.Run

end
-- ==== Proof.KernelIdeal.Main.lean ====
/-
  The whole program's run: @main on the TensorCore around the SparseCore call, and what the run leaves — the argument at
  its launch contents, the result at every element's token, every semaphore at zero.

  The 2 * 16 * 8 chunks the call hands out are the flat arrays, cut. The subcores signal nobody, so the launch's ghost
  state is the handshakes' alone.
-/
module

public import proofs.«01_k».proof.Proof.KernelIdeal.Launch

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The flat arrays, cut into every subcore's chunks -/

/-- A chunk's place: its SparseCore, its subcore, its trip. -/
abbrev Place : Type := Fin (grid0.bound 0) × Fin (grid0.bound 1) × Fin k0_t1_loop.trips

/-- The chunk at a place. -/
abbrev chunkAt (p : Place) : Finset S4194304.Idx := chunk (coords p.1 p.2.1) p.2.2

theorem grid_cores : grid0.bound 0 = 2 := by decide
theorem grid_subs : grid0.bound 1 = 16 := by decide
theorem trips_eq : k0_t1_loop.trips = 8 := by decide +kernel

/-- Which elements a chunk holds. -/
theorem mem_chunkAt (p : Place) (j : S4194304.Idx) :
    j ∈ chunkAt p ↔ 262144 * p.2.1.val + 131072 * p.1.val + 16384 * p.2.2.val ≤ (j 0).val
      ∧ (j 0).val < 262144 * p.2.1.val + 131072 * p.1.val + 16384 * p.2.2.val + 16384 := by
  show j ∈ (Rect.unit (s := S4194304) (k0_off1 (coords p.1 p.2.1) p.2.2) S16384.size (k0_off1_inb _ _)).set ↔ _
  rw [Rect.mem_set_unit]
  constructor
  · intro h
    have h0 := h 0
    rw [k0_off1_eq] at h0
    exact h0
  · intro h a
    obtain rfl : a = 0 := Subsingleton.elim _ _
    rw [k0_off1_eq]
    exact h

/-- Chunks at different places share no element. -/
theorem chunks_disjoint : ∀ p ∈ (Finset.univ : Finset Place), ∀ q ∈ (Finset.univ : Finset Place), p ≠ q → Disjoint (chunkAt p) (chunkAt q) := by
  intro p _ q _ hpq
  rw [Finset.disjoint_left]
  intro j hp hq
  rw [mem_chunkAt] at hp hq
  refine hpq ?_
  obtain ⟨⟨c, hc⟩, ⟨s, hs⟩, ⟨k, hk⟩⟩ := p
  obtain ⟨⟨c', hc'⟩, ⟨s', hs'⟩, ⟨k', hk'⟩⟩ := q
  rw [grid_cores] at hc hc'; rw [grid_subs] at hs hs'; rw [trips_eq] at hk hk'
  dsimp only at hp hq
  have e1 : s = s' := by omega
  have e2 : c = c' := by omega
  have e3 : k = k' := by omega
  subst e1 e2 e3; rfl

/-- Every element of a flat array lies in a chunk. -/
theorem chunks_cover : (Finset.univ : Finset Place).biUnion chunkAt = Finset.univ := by
  refine Finset.eq_univ_iff_forall.mpr fun j => Finset.mem_biUnion.mpr ?_
  have hj : (j 0).val < 4194304 := (j 0).isLt
  refine ⟨(⟨(j 0).val / 131072 % 2, by rw [grid_cores]; omega⟩, ⟨(j 0).val / 262144, by rw [grid_subs]; omega⟩,
    ⟨(j 0).val / 16384 % 8, by rw [trips_eq]; omega⟩), Finset.mem_univ _, ?_⟩
  rw [mem_chunkAt]
  dsimp only
  omega

/-- The flat argument is its chunks; -/
theorem x_cut (d : Dev nD) (f : Buf (Elt F) (xLoc d)) :
    (xLoc d ↦{fullShare} f : sProp 𝕄)
      = bigSep Finset.univ fun c : Fin (grid0.bound 0) => bigSep Finset.univ fun i : Fin (grid0.bound 1) =>
          bigSep Finset.univ fun k : Fin k0_t1_loop.trips => xChunk d (coords c i) k f := by
  have h := pointsTo_biUnion (Val := Elt F) (Ix := HIx 1) (Name := ℕ) (U := UU) (Lvl := ℕ) (Finset.univ : Finset Place) (ℓ := xLoc d) (q := fullShare) (f := f) chunkAt chunks_disjoint
  rw [chunks_cover] at h
  refine h.trans ?_
  rw [bigSep_univ_prod]
  refine bigSep_congr fun c _ => ?_
  rw [bigSep_univ_prod]

/-- the flat result is its chunks. -/
theorem o_cut (d : Dev nD) (f : Buf (Elt F) (oLoc d)) :
    (oLoc d ↦{fullShare} f : sProp 𝕄)
      = bigSep Finset.univ fun c : Fin (grid0.bound 0) => bigSep Finset.univ fun i : Fin (grid0.bound 1) =>
          bigSep Finset.univ fun k : Fin k0_t1_loop.trips => oChunk d (coords c i) k f := by
  have h := pointsTo_biUnion (Val := Elt F) (Ix := HIx 1) (Name := ℕ) (U := UU) (Lvl := ℕ) (Finset.univ : Finset Place) (ℓ := oLoc d) (q := fullShare) (f := f) chunkAt chunks_disjoint
  rw [chunks_cover] at h
  refine h.trans ?_
  rw [bigSep_univ_prod]
  refine bigSep_congr fun c _ => ?_
  rw [bigSep_univ_prod]

variable [FloatOps F]

/-- With no chunk written yet a task's chunks are as launched; -/
theorem written_none (d : Dev nD) (L : grid0.Coords) :
    (written m d L 0 : sProp 𝕄) = bigSep Finset.univ fun k : Fin k0_t1_loop.trips => oChunk d L k (m (oLoc d)) := by
  unfold written
  exact bigSep_congr fun k _ => by rw [if_neg (Nat.not_lt_zero _)]
/-- with all written they are at their tokens. -/
theorem written_all (d : Dev nD) (L : grid0.Coords) :
    (written m d L k0_t1_loop.trips : sProp 𝕄) = bigSep Finset.univ fun k : Fin k0_t1_loop.trips => oChunk d L k (tokens m d) := by
  unfold written
  exact bigSep_congr fun k _ => by rw [if_pos k.isLt]

/-- What the call takes: the flat argument, and the flat result as launched. -/
theorem taken (d : Dev nD) :
    (bigSep Finset.univ fun c : Fin ((K (F := F)).nCore 0) => (P m).st 0 d c)
      = iprop((xLoc d ↦{fullShare} flat m d) ∗ (oLoc d ↦{fullShare} m (oLoc d))) := by
  show (bigSep Finset.univ fun c : Fin (grid0.bound 0) => bigSep Finset.univ fun i : Fin (grid0.bound 1) =>
    iprop(fetched m d (coords c i) ∗ written m d (coords c i) 0)) = _
  rw [x_cut, o_cut, ← bigSep_sep']
  refine bigSep_congr fun c _ => ?_
  rw [← bigSep_sep']
  refine bigSep_congr fun i _ => ?_
  rw [written_none]; rfl
/-- What it gives back: the flat argument, and the flat result at the tokens. -/
theorem given (d : Dev nD) :
    (bigSep Finset.univ fun c : Fin ((K (F := F)).nCore 0) => (P m).dn 0 d c)
      = iprop((xLoc d ↦{fullShare} flat m d) ∗ (oLoc d ↦{fullShare} tokens m d)) := by
  show (bigSep Finset.univ fun c : Fin (grid0.bound 0) => bigSep Finset.univ fun i : Fin (grid0.bound 1) =>
    iprop(fetched m d (coords c i) ∗ written m d (coords c i) k0_t1_loop.trips)) = _
  rw [x_cut, o_cut, ← bigSep_sep']
  refine bigSep_congr fun c _ => ?_
  rw [← bigSep_sep']
  refine bigSep_congr fun i _ => ?_
  rw [written_all]; rfl

/-! ## The launch element: the handshakes' rounds, nothing of the kernel's own -/

def u₀ : UU := (initOf (K (F := F)).hsCells (K (F := F)).hsToks, 1)

omit [FloatOps F] in
/-- Nothing, over any set, is nothing. -/
theorem none_left {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [none_left]; iempintro
  rw [show (bigSep Finset.univ fun thr : Thread nD τ => bigSep Finset.univ fun q : Fin 1 => (P (F := F) m).x q thr) = iprop(emp) from
    (bigSep_congr fun _ _ => none_left _).trans (none_left _)]
  iempintro

/-! ## @main on the TensorCore -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The reshape of the argument to the flat one, and of the flat result to the result. -/
abbrev opFlat : HloOp τ sig (Elt F) := StableHlo.reshape main_arg0 main_v0 (rfl : (.f32 : EltTy) = .f32) shapeCasts_S8192x512_S4194304
abbrev opBack : HloOp τ sig (Elt F) := StableHlo.reshape main_v1 main_v2 (rfl : (.i32 : EltTy) = .i32) shapeCasts_S4194304_S8192x512

/-- The TensorCore's arrays. -/
abbrev arrays : Finset (DevRef τ sig) := {a', x', o', r'}

omit [FloatOps F] in
theorem held_arrays (d : Dev nD) (W : Valuation τ sig (Elt F)) :
    (held (T d) arrays W : sProp 𝕄)
      = iprop((aLoc d ↦{fullShare} W a') ∗ (xLoc d ↦{fullShare} W x') ∗ (oLoc d ↦{fullShare} W o') ∗ rLoc d ↦{fullShare} W r') := by
  unfold held arrays
  rw [SparseCore.bigSep_insert' (by decide), SparseCore.bigSep_insert' (by decide), SparseCore.bigSep_insert' (by decide), bigSep_singleton]

omit [FloatOps F] in
theorem unscoped_arrays (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The arrays at the launch; after the call. -/
def W0 (d : Dev nD) : Valuation τ sig (Elt F) := fun b => m (d, b)
def W1 (d : Dev nD) : Valuation τ sig (Elt F) := Function.update (Function.update (W0 m d) x' (flat m d)) o' (tokens m d)

omit [FloatOps F] in
theorem unscoped_held (d : Dev nD) : (unscopedBufs d (fun b => m ((SparseCore.T d).loc b)) : sProp 𝕄) = held (T d) arrays (W0 m d) := by
  rw [unscoped_arrays, held_arrays]; rfl

theorem W1_a (d : Dev nD) : W1 m d a' = m (aLoc d) :=
  (Function.update_of_ne (show a' ≠ o' by decide) _ _).trans (Function.update_of_ne (show a' ≠ x' by decide) _ _)
theorem W1_x (d : Dev nD) : W1 m d x' = flat m d :=
  (Function.update_of_ne (show x' ≠ o' by decide) _ _).trans (Function.update_self _ _ _)
theorem W1_o (d : Dev nD) : W1 m d o' = tokens m d := Function.update_self _ _ _
theorem W1_r (d : Dev nD) : W1 m d r' = m (rLoc d) :=
  (Function.update_of_ne (show r' ≠ o' by decide) _ _).trans (Function.update_of_ne (show r' ≠ x' by decide) _ _)

/-- What the program computes: each element of the result is the token of the argument's element there. -/
def answer (d : Dev nD) : Buf (Elt F) (rLoc d) := fun i => token (m (aLoc d) i : F .f32)

/-- Flattened, turned into tokens and shaped back, the argument's tokens. -/
theorem shaped_back (d : Dev nD) : (fun i => shapeCast S8192x512 (tokens m d : S4194304.Idx → BitVec 32) shapeCasts_S4194304_S8192x512 i) = answer m d := by
  have h := shapeCast_shapeCast (m (aLoc d) : S8192x512.Idx → F .f32) shapeCasts_S8192x512_S4194304 shapeCasts_S4194304_S8192x512
  funext i
  exact congrArg token (congrFun h i)

/-- The arrays after the first reshape. -/
theorem held_flat (d : Dev nD) :
    (held (T d) arrays ((opFlat (F := F)).result (W0 m d)) : sProp 𝕄)
      = iprop((aLoc d ↦{fullShare} m (aLoc d)) ∗ (xLoc d ↦{fullShare} flat m d) ∗ (oLoc d ↦{fullShare} m (oLoc d)) ∗ rLoc d ↦{fullShare} m (rLoc d)) := by
  rw [held_arrays, (opFlat (F := F)).result_of_not_mem (W0 m d) (b := a') (show a' ∉ ({x'} : Finset (DevRef τ sig)) by decide),
    (opFlat (F := F)).result_of_not_mem (W0 m d) (b := o') (show o' ∉ ({x'} : Finset (DevRef τ sig)) by decide),
    (opFlat (F := F)).result_of_not_mem (W0 m d) (b := r') (show r' ∉ ({x'} : Finset (DevRef τ sig)) by decide),
    StableHlo.reshape_result]
  rfl

/-- The arrays after the second. -/
theorem held_back (d : Dev nD) :
    (held (T d) arrays ((opBack (F := F)).result (W1 m d)) : sProp 𝕄)
      = iprop((aLoc d ↦{fullShare} m (aLoc d)) ∗ (xLoc d ↦{fullShare} flat m d) ∗ (oLoc d ↦{fullShare} tokens m d) ∗ rLoc d ↦{fullShare} answer m d) := by
  rw [held_arrays, (opBack (F := F)).result_of_not_mem (W1 m d) (b := a') (show a' ∉ ({r'} : Finset (DevRef τ sig)) by decide),
    (opBack (F := F)).result_of_not_mem (W1 m d) (b := x') (show x' ∉ ({r'} : Finset (DevRef τ sig)) by decide),
    (opBack (F := F)).result_of_not_mem (W1 m d) (b := o') (show o' ∉ ({r'} : Finset (DevRef τ sig)) by decide),
    StableHlo.reshape_result, W1_a, W1_x, W1_o, ← shaped_back]
  rfl

theorem opFlat_bufs : (opFlat (F := F)).bufs ⊆ arrays := by rw [StableHlo.reshape_bufs]; decide
theorem opBack_bufs : (opBack (F := F)).bufs ⊆ arrays := by rw [StableHlo.reshape_bufs]; decide

/-- What @main leaves for the claim: the argument as launched, the result at the answer. -/
abbrev left (d : Dev nD) : sProp 𝕄 := iprop((aLoc d ↦{fullShare} m (aLoc d)) ∗ rLoc d ↦{fullShare} answer m d)

/-- @main on device `d`'s TensorCore: the reshape, the call, the reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ left m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFlat) (S := arrays) opFlat_bufs (V := W0 m d)) $$ [Hb Hheld]
  · isplitl [Hb]; · iexact Hb
    iexact Hheld
  iintro ⟨Hb, Hheld⟩
  ihave Hh := (Entails.of_eq (held_flat (F := F) m d)) $$ Hheld
  icases Hh with ⟨Ha, Hx, Ho, Hr⟩
  rw [wp_ret]; imodintro
  iapply ((K (F := F)).wp_run (D (F := F)) 𝒱 (EH := EH) (P := P m) κ d 0) $$ [Hst Hx Ho Hb Ha Hr Hts]
  isplitr; · iexact Hctx
  isplitl [Hst]; · iexact Hst
  isplitl [Hx Ho]
  · rw [taken]
    isplitl [Hx]; · iexact Hx
    iexact Ho
  iintro ⟨Hst, Hdn⟩
  ihave Hdn' := (Entails.of_eq (given m d)) $$ Hdn
  icases Hdn' with ⟨Hx, Ho⟩
  iapply (wp_hlo_within 𝒱 (SparseCore.T d) none Set.univ (op := opBack) (S := arrays) opBack_bufs (V := W1 m d)) $$ [Hb Ha Hx Ho Hr]
  · isplitl [Hb]; · iexact Hb
    rw [held_arrays, W1_a, W1_x, W1_o, W1_r]
    isplitl [Ha]; · iexact Ha
    isplitl [Hx]; · iexact Hx
    isplitl [Ho]; · iexact Ho
    iexact Hr
  iintro ⟨Hb, Hheld⟩
  ihave Hh := (Entails.of_eq (held_back (F := F) m d)) $$ Hheld
  icases Hh with ⟨Ha, -, -, Hr⟩
  rw [wp_ret]; imodintro; imodintro
  isplitl [Hst]; · iexact Hst
  isplitl [Ha Hr]
  · isplitl [Ha]; · iexact Ha
    iexact Hr
  isplitl [Hb] <;> iassumption

/-- What the final memory says on device `d`. -/
def fq (d : Dev nD) (s' : Phys nD τ sig (Elt F)) : Prop := s'.mem.mem (aLoc d) = m (aLoc d) ∧ s'.mem.mem (rLoc d) = answer m d

theorem hfin (d : Dev nD) (s' : Phys nD τ sig (Elt F)) : iprop(left m d ∗ SI s') ⊢ (⌜fq m d s'⌝ : sProp 𝕄) := by
  have ha : iprop(left m d ∗ SI s') ⊢ (⌜s'.mem.mem (aLoc d) = m (aLoc d)⌝ : sProp 𝕄) := by
    iintro ⟨⟨Ha, -⟩, HSI⟩
    ihave H := (SI_pointsTo_agree (st := s') (ℓ := aLoc d) (I := Finset.univ) (q := fullShare) (f := m (aLoc d))) $$ [HSI Ha]
    · isplitl [HSI] <;> iassumption
    icases H with %h
    ipureintro; exact funext fun i => h i (Finset.mem_univ i)
  have hr : iprop(left m d ∗ SI s') ⊢ (⌜s'.mem.mem (rLoc d) = answer m d⌝ : sProp 𝕄) := by
    iintro ⟨⟨-, Hr⟩, HSI⟩
    ihave H := (SI_pointsTo_agree (st := s') (ℓ := rLoc d) (I := Finset.univ) (q := fullShare) (f := answer m d)) $$ [HSI Hr]
    · isplitl [HSI] <;> iassumption
    icases H with %h
    ipureintro; exact funext fun i => h i (Finset.mem_univ i)
  exact (BIClass.and_intro ha hr).trans pure_and.1

/-! ## The program's run -/

/-- Every device's argument as launched and result at the answer, every semaphore at zero. -/
def ends : PUnit × MemSt nD τ sig (Elt F) → Prop :=
  fun r => (∀ c : Dev nD, r.2.mem (aLoc c) = m (aLoc c) ∧ r.2.mem (rLoc c) = answer m c) ∧ r.2.sem = fun _ => 0

/-- Every run of the program from a launch with all semaphores at zero ends so. -/
theorem run_main [∀ e, Nonempty (Elt F e)] : θ_run (Cert.KernelIdeal.defs (F := F)) (Cert.KernelIdeal.threads (F := F)) ⟨m, fun _ => 0, ρ⟩ (ends m) :=
  SparseCore.Cfg.θ_run_sc_quiescent (K := K (F := F)) (D := D (F := F)) (𝒱 := 𝒱) (EH := EH) (P := P m) (A := ∅) launchFacts v₀
    (fun q hq => match q with | 0 => nomatch hq)
    (fun q _ => match q with | 0 => tileObl m)
    (fun q _ => match q with | 0 => SparseCore.Cfg.VecSplit.of_plain (vecSplit m))
    m ρ main (fun _ => iprop(emp)) (left m) (u₀ (F := F)) (sep_elim_left.trans (hu₀ m)) (hmain m ρ) (fq m) (hfin m) (ends m) (fun _ h hz => ⟨h, hz⟩)

end Cert.KernelIdeal.Run

end
-- ==== Proof.ReferenceIdeal.Value.lean ====
/-
  The reference's value: the 65 edges its linspace makes, the clipped array, the one-hot row of every element, and the
  place of that row's largest entry — each in the operations the reference writes, over any instance.
-/
module

public import proofs.«01_k».proof.Defs
public import proofs.«01_k».proof.Proof.Gen.ReferenceIdeal

@[expose] public section

noncomputable section

namespace Cert.ReferenceIdeal.Run

open Cert.ReferenceIdeal Cert.ReferenceIdeal.Facts₀
open Idealize.ShloMosaic

variable {F : FTy → Type} [FloatOps F]

/-! ## The edges -/

/-- A scalar literal of the reference. -/
abbrev lit (b : BitVec 32) : FVec F S_ .f32 := constant S_ .f32 b

/-- The steps 0/64, 1/64, …, 63/64. -/
def steps : FVec F S64 .f32 :=
  Host.divf (sitofp .f32 (iotaInDim S64 32 0)) (broadcastInDim S64 ![] bcast_S_S64 (lit 0x42800000#32))

/-- A scalar as the reference spreads it over the steps: a vector of one entry first. -/
def spread (v : FVec F S_ .f32) : FVec F S64 .f32 :=
  broadcastInDim S64 ![0] bcast_S1_S64_0 (shapeCast S1 v shapeCasts_S_S1)

/-- The edges before the last: the low end weighed by what is left of each step, and the high end by the step. -/
def inner : FVec F S64 .f32 :=
  addf (mulf (spread (lit 0x00000000#32)) (subf (broadcastInDim S64 ![] bcast_S_S64 (lit 0x3F800000#32)) steps))
    (mulf (spread (lit 0x3F800000#32)) steps)

/-- All 65 edges: the last one is the high end itself. -/
def edges : FVec F S65 .f32 :=
  concatenate S65 0 [⟨S64, inner⟩, ⟨S1, broadcastInDim S1 ![] bcast_S_S1 (lit 0x3F800000#32)⟩] concatenates_S64_S1_S65_d0

/-! ## The one-hot rows and the answer -/

/-- The argument, clipped between the two bounds. -/
def clipped (x : FVec F S8192x512 .f32) : FVec F S8192x512 .f32 :=
  minimumf (broadcastInDim S8192x512 ![] bcast_S_S8192x512 (lit 0x3F7FFFEF#32))
    (maximumf (broadcastInDim S8192x512 ![] bcast_S_S8192x512 (lit 0x358637BD#32)) x)

/-- Every element, repeated along the 64 bins. -/
def rows (x : FVec F S8192x512 .f32) : FVec F S8192x512x64 .f32 :=
  broadcastInDim S8192x512x64 ![0, 1, 2] bcast_S8192x512x1_S8192x512x64_0_1_2
    (broadcastInDim S8192x512x1 ![0, 1] bcast_S8192x512_S8192x512x1_0_1 (clipped x))

/-- One edge per bin, repeated over every element. -/
def columns (e : FVec F S64 .f32) : FVec F S8192x512x64 .f32 :=
  broadcastInDim S8192x512x64 ![0, 1, 2] bcast_S1x1x64_S8192x512x64_0_1_2
    (broadcastInDim S1x1x64 ![2] bcast_S64_S1x1x64_2 e)

/-- The one-hot rows: an element is a bin's where it is below the bin's upper edge and not below its lower one. -/
def member (x : FVec F S8192x512 .f32) : IVec S8192x512x64 8 :=
  extui 8 (andi
    (cmpf .olt (rows x) (columns (extractStridedSlice S64 ![1] edges slices_S65_S64_1)))
    (cmpf .oge (rows x) (columns (extractStridedSlice S64 ![0] edges slices_S65_S64_0)))) natLt_1_8

/-- Every element's bin: the place of the largest entry of its row. -/
def place (x : FVec F S8192x512 .f32) : IVec S8192x512 32 := fun j =>
  (Host.reduce2 reducer_argmax_i8_i32 (member x) (iotaInDim S8192x512x64 32 2) (constantI S_ 8 0#8) (constantI S_ 32 0#32)
    reducesTo_S8192x512x64_S8192x512_d2 h_S_ j).2

end Cert.ReferenceIdeal.Run

end
-- ==== Proof.ReferenceIdeal.Main.lean ====
/-
  The reference's run: it ends with its argument unchanged, every semaphore at zero, and the bins of its argument in
  its result.
-/
module

public import proofs.«01_k».proof.Proof.ReferenceIdeal.Value
public import Idealize.ShloMosaic.Lib.Claim

@[expose] public section

noncomputable section

namespace Cert.ReferenceIdeal.Run

open Cert.ReferenceIdeal Cert.ReferenceIdeal.Gen
open Idealize.ShloMosaic Idealize.SL.Sem

/-- The reference runs from every memory and leaves, on every device, the bins of the argument in the result, and the
    argument as it was. -/
theorem run_place (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v15) = place (F := Ideal) (m ((c.tc : Thread nD τ).loc main_arg0))
      ∧ r.2.mem ((c.tc : Thread nD τ).loc main_arg0) = m ((c.tc : Thread nD τ).loc main_arg0)) := by
  hlo_run
  rfl

/-- The reference runs from every memory, leaves its argument as it was, and every semaphore at zero: it has none. -/
theorem frame : Cert.quiescent_ReferenceIdeal := fun m g _ =>
  θ_run_mono (run_place m g) fun r h => ⟨fun c => (h c).2, sem_eq_zero_of_no_sems (by decide) r.2⟩

end Cert.ReferenceIdeal.Run

end
-- ==== Proof.Bins.lean ====
/-
  Over the extended reals the reference's bin and the kernel's token are one number.

  The clipped element is a real `r` with `0 < r < 1`; the edges are `0/64, 1/64, …, 64/64`. So the one bin holding it is
  `⌊64 r⌋`, which is what the kernel computes; and an arg-max over a row with a single one in it is that one's place.
-/
module

public import proofs.«01_k».proof.Proof.ReferenceIdeal.Value
public import proofs.«01_k».proof.Proof.KernelIdeal.Main
public import Idealize.ShloMosaic.Lib.Pointwise.Reduce
public import Idealize.ShloMosaic.PureOps.Reduce
public import Idealize.ShloMosaic.Lib.Pipeline.Value

@[expose] public section

noncomputable section

namespace Cert.Bins

open Cert.ReferenceIdeal Cert.ReferenceIdeal.Facts₀ Cert.ReferenceIdeal.Run
open Idealize.ShloMosaic

/-! ## The literals -/

/-- The word of zero. -/
theorem zero_word : Ideal.ofBits .f32 0x00000000#32 = 0 := by simp [Ideal.ofBits, Ideal.ieee]

/-- The word of one. -/
theorem one_word : Ideal.ofBits .f32 0x3F800000#32 = 1 := by
  simp [Ideal.ofBits, Ideal.ieee, -EReal.coe_mul]; norm_num

/-- The word of the number of bins. -/
theorem bins_word : Ideal.ofBits .f32 0x42800000#32 = ((64 : ℝ) : EReal) := by
  simp [Ideal.ofBits, Ideal.ieee, -EReal.coe_mul]; norm_num

/-- The lower bound of the clip. -/
def low : ℝ := 8796093 / 2 ^ 43

/-- The upper bound of the clip. -/
def high : ℝ := 16777199 / 2 ^ 24

/-- The word of the lower bound. -/
theorem low_word : Ideal.ofBits .f32 0x358637BD#32 = (low : EReal) := by
  simp [Ideal.ofBits, Ideal.ieee, low, -EReal.coe_mul]; norm_num

/-- The word of the upper bound. -/
theorem high_word : Ideal.ofBits .f32 0x3F7FFFEF#32 = (high : EReal) := by
  simp [Ideal.ofBits, Ideal.ieee, high, -EReal.coe_mul]; norm_num

/-! ## The clipped element -/

/-- A clipped element is a real between the bounds. -/
theorem clip_real (v : EReal) : ∃ r : ℝ, min (high : EReal) (max (low : EReal) v) = r ∧ low ≤ r ∧ r ≤ high := by
  have hlh : low ≤ high := by norm_num [low, high]
  have h1 : (low : EReal) ≤ min (high : EReal) (max (low : EReal) v) :=
    le_min (EReal.coe_le_coe_iff.2 hlh) (le_max_left _ _)
  have h2 : min (high : EReal) (max (low : EReal) v) ≤ high := min_le_left _ _
  generalize min (high : EReal) (max (low : EReal) v) = y at h1 h2
  induction y with
  | bot => exact absurd h1 (by simp)
  | top => exact absurd h2 (by simp)
  | coe r => exact ⟨r, rfl, EReal.coe_le_coe_iff.1 h1, EReal.coe_le_coe_iff.1 h2⟩

/-- The bin of a real. -/
def bin (r : ℝ) : ℕ := ⌊r * 64⌋.toNat

section
variable {r : ℝ} (hl : low ≤ r) (hh : r ≤ high)
include hl hh

/-- A clipped real's bin, as the integer part it is. -/
theorem bin_int : (bin r : ℤ) = ⌊r * 64⌋ :=
  Int.toNat_of_nonneg (Int.floor_nonneg.2 (by have : (0 : ℝ) < low := by norm_num [low]
                                              nlinarith))

/-- A clipped real's bin is one of the 64. -/
theorem bin_lt : bin r < 64 := by
  have h : ⌊r * 64⌋ < 64 := Int.floor_lt.2 (by have : high < 1 := by norm_num [high]
                                               push_cast; linarith)
  have := bin_int hl hh
  omega

/-- A clipped real lies in its own bin and in no other. -/
theorem in_bin (k : ℕ) : (r < ((k + 1 : ℕ) : ℝ) / 64 ∧ ((k : ℕ) : ℝ) / 64 ≤ r) ↔ k = bin r := by
  have e : k = bin r ↔ ⌊r * 64⌋ = (k : ℤ) := by have := bin_int hl hh; omega
  rw [e, Int.floor_eq_iff, lt_div_iff₀ (by norm_num), div_le_iff₀ (by norm_num)]
  push_cast
  exact and_comm

/-- The kernel's conversion of a clipped real, times the number of bins, is its bin. -/
theorem convert (r' : EReal) (e : r' = r) : Ideal.fptosi 32 (r' * ((64 : ℝ) : EReal)) = BitVec.ofNat 32 (bin r) := by
  have h0 : (0 : ℝ) ≤ r * 64 := by have : (0 : ℝ) < low := by norm_num [low]
                                   nlinarith
  have hb := bin_int hl hh
  have hlt := bin_lt hl hh
  subst e
  rw [← EReal.coe_mul, Ideal.fptosi, Ideal.toIntClamped_coe, if_pos h0, ← hb]
  rw [show max (-((2 ^ (32 - 1) : ℕ) : ℤ)) (min (((2 ^ (32 - 1) : ℕ) : ℤ) - 1) (bin r : ℤ)) = (bin r : ℤ) by
    norm_num; omega]
  rfl

end

/-! ## The edges -/

/-- Every step is its place over the number of bins. -/
theorem steps_apply (k : Fin 64) : steps (F := Ideal) (ix1 k) = (((k : ℕ) : ℝ) / 64 : ℝ) := by
  show Ideal.div (((BitVec.ofNat 32 (k : ℕ)).toInt : ℝ) : EReal) (Ideal.ofBits .f32 0x42800000#32) = _
  have e : ∀ k : Fin 64, (BitVec.ofNat 32 (k : ℕ)).toInt = ((k : ℕ) : ℤ) := by decide +kernel
  rw [bins_word, e, Ideal.div, if_neg (by norm_num), ← EReal.coe_inv, ← EReal.coe_mul]
  congr 1

/-- Every edge before the last. -/
theorem inner_apply (k : Fin 64) : inner (F := Ideal) (ix1 k) = (((k : ℕ) : ℝ) / 64 : ℝ) := by
  show Ideal.ofBits .f32 0x00000000#32 * (Ideal.ofBits .f32 0x3F800000#32 - steps (F := Ideal) (ix1 k))
      + Ideal.ofBits .f32 0x3F800000#32 * steps (F := Ideal) (ix1 k) = _
  rw [zero_word, one_word, zero_mul, zero_add, one_mul, steps_apply]

/-- Every edge is its place over the number of bins. -/
theorem edges_apply (k : Fin 65) : edges (F := Ideal) (ix1 k) = (((k : ℕ) : ℝ) / 64 : ℝ) := by
  rcases Nat.lt_or_ge k.val 64 with h | h
  · refine (concatenate_pair_apply_left (t := S65) (s₁ := S64) (s₂ := S1) 0 _ _ _ (ix1 k) rfl (ix1 ⟨k.val, h⟩) fun b => ?_).trans
      (inner_apply ⟨k.val, h⟩)
    match b with | ⟨0, _⟩ => rfl
  · have hk : k.val = 64 := by have := k.isLt; omega
    refine (concatenate_pair_apply_right (t := S65) (s₁ := S64) (s₂ := S1) 0 _ _ _ (ix1 k) rfl rfl (ix1 (0 : Fin 1)) (fun b hb => ?_) ?_).trans ?_
    · match b with | ⟨0, _⟩ => exact absurd rfl hb
    · exact hk.symm
    · show Ideal.ofBits .f32 0x3F800000#32 = _
      rw [one_word, hk]; norm_num

/-! ## The one-hot rows -/

/-- The reference's clip of an element. -/
theorem clipped_apply (x : FVec Ideal S8192x512 .f32) (j : S8192x512.Idx) :
    clipped x j = min (high : EReal) (max (low : EReal) (x j)) := by
  show min (Ideal.ofBits .f32 0x3F7FFFEF#32) (max (Ideal.ofBits .f32 0x358637BD#32) (x j)) = _
  rw [low_word, high_word]

/-- One edge per bin, repeated over every element, read at a bin. -/
theorem columns_apply (e : FVec Ideal S64 .f32) (i : S8192x512x64.Idx) : columns e i = e (ix1 ⟨(i 2).val, (i 2).isLt⟩) := by
  show e _ = e _
  congr 1; funext a; match a with | ⟨0, _⟩ => rfl

/-- The elements, repeated along the bins, read at an element. -/
theorem rows_apply (x : FVec Ideal S8192x512 .f32) (i : S8192x512x64.Idx) (j : S8192x512.Idx) (h0 : (i 0).val = (j 0).val)
    (h1 : (i 1).val = (j 1).val) : rows x i = clipped x j := by
  unfold rows
  generalize clipped x = y
  show y _ = y j
  congr 1; funext a; match a with | ⟨0, _⟩ => exact Fin.ext h0 | ⟨1, _⟩ => exact Fin.ext h1

/-- The edges from the second on, one place further. -/
theorem upper_apply (e : FVec Ideal S65 .f32) (k : Fin 64) :
    extractStridedSlice S64 ![1] e slices_S65_S64_1 (ix1 k) = e (ix1 ⟨k.val + 1, Nat.succ_lt_succ k.isLt⟩) := by
  show e _ = e _
  congr 1; funext a; match a with | ⟨0, _⟩ => exact Fin.ext (Nat.add_comm _ _)

/-- The edges before the last, in their places. -/
theorem lower_apply (e : FVec Ideal S65 .f32) (k : Fin 64) :
    extractStridedSlice S64 ![0] e slices_S65_S64_0 (ix1 k) = e (ix1 ⟨k.val, Nat.lt_succ_of_lt k.isLt⟩) := by
  show e _ = e _
  congr 1; funext a; match a with | ⟨0, _⟩ => exact Fin.ext (Nat.zero_add _)

/-- An entry of the rows is one where the element is in the bin's interval, and zero elsewhere. -/
theorem member_iff (x : FVec Ideal S8192x512 .f32) (i : S8192x512x64.Idx) {y lo hi : ℝ} (ey : rows x i = (y : EReal))
    (el : columns (extractStridedSlice S64 ![0] (edges (F := Ideal)) slices_S65_S64_0) i = (lo : EReal))
    (eh : columns (extractStridedSlice S64 ![1] (edges (F := Ideal)) slices_S65_S64_1) i = (hi : EReal)) :
    member x i = if y < hi ∧ lo ≤ y then 1#8 else 0#8 := by
  unfold member
  generalize rows x = v at ey ⊢
  generalize columns (extractStridedSlice S64 ![0] (edges (F := Ideal)) slices_S65_S64_0) = u at el ⊢
  generalize columns (extractStridedSlice S64 ![1] (edges (F := Ideal)) slices_S65_S64_1) = w at eh ⊢
  show (BitVec.ofBool (decide (v i < w i)) &&& BitVec.ofBool (decide (u i ≤ v i))).setWidth 8 = _
  rw [ey, el, eh]
  simp only [EReal.coe_lt_coe_iff, EReal.coe_le_coe_iff]
  by_cases p : y < hi <;> by_cases q : lo ≤ y <;> simp [p, q]

/-- A row's entry is one in the element's bin and zero in every other. -/
theorem member_apply (x : FVec Ideal S8192x512 .f32) (i : S8192x512x64.Idx) (j : S8192x512.Idx)
    (h0 : (i 0).val = (j 0).val) (h1 : (i 1).val = (j 1).val) {r : ℝ} (e : clipped x j = (r : EReal)) (hl : low ≤ r)
    (hh : r ≤ high) : member x i = if (i 2).val = bin r then 1#8 else 0#8 := by
  rw [member_iff x i ((rows_apply x i j h0 h1).trans e) ((columns_apply _ i).trans ((lower_apply _ _).trans (edges_apply _)))
    ((columns_apply _ i).trans ((upper_apply _ _).trans (edges_apply _)))]
  exact if_congr (in_bin hl hh _) rfl rfl

/-! ## The place of the largest entry -/

/-- One step of the arg-max, on an entry that is one in place `k` only: once the one has been met its place stays. -/
theorem argmax_step (k : BitVec 32) (a b : BitVec 8 × BitVec 32) (ha : a = (1#8, k) ∨ a.1 = 0#8)
    (hb : b = (1#8, k) ∨ b.1 = 0#8) :
    (reducer_argmax_i8_i32 a b = (1#8, k) ∨ (reducer_argmax_i8_i32 a b).1 = 0#8)
      ∧ ((a = (1#8, k) ∨ b = (1#8, k)) → reducer_argmax_i8_i32 a b = (1#8, k)) := by
  obtain ⟨a, i⟩ := a
  obtain ⟨b, j⟩ := b
  simp only [Prod.mk.injEq] at ha hb ⊢
  rcases ha with ⟨rfl, rfl⟩ | rfl <;> rcases hb with ⟨rfl, rfl⟩ | rfl <;>
    simp [reducer_argmax_i8_i32, IntOp.cmpi, IntOp.ori, IntOp.andi, Scalar.select]

/-- The arg-max over a list of entries, each the one of place `k` or a zero, with the one among them or met before. -/
theorem argmax_fold (k : BitVec 32) (l : List (BitVec 8 × BitVec 32)) (a : BitVec 8 × BitVec 32)
    (ha : a = (1#8, k) ∨ a.1 = 0#8) (hl : ∀ b ∈ l, b = (1#8, k) ∨ b.1 = 0#8) (h : a = (1#8, k) ∨ (1#8, k) ∈ l) :
    l.foldl reducer_argmax_i8_i32 a = (1#8, k) := by
  induction l generalizing a with
  | nil => exact h.resolve_right List.not_mem_nil
  | cons b l ih =>
    have s := argmax_step k a b ha (hl b List.mem_cons_self)
    refine ih _ s.1 (fun c hc => hl c (List.mem_cons_of_mem _ hc)) ?_
    rcases h with h | h
    · exact .inl (s.2 (.inl h))
    · rcases List.mem_cons.1 h with h | h
      · exact .inl (s.2 (.inr h.symm))
      · exact .inr h

/-- The pairs a two-operand reduce of the last of three axes folds over: those of one row. -/
theorem mem_row {n0 n1 n2 : ℕ} {t : Shape} {α β : Type} (x : (⟨3, ![n0, n1, n2]⟩ : Shape).Idx → α)
    (y : (⟨3, ![n0, n1, n2]⟩ : Shape).Idx → β) (h : (⟨3, ![n0, n1, n2]⟩ : Shape).ReducesTo [2] t) (j : t.Idx) (p : α × β) :
    p ∈ Host.argReduceFiber x y h j ↔ ∃ i, h.drop i = j ∧ (x i, y i) = p := by
  unfold Host.argReduceFiber
  rw [List.mem_map]
  constructor
  · rintro ⟨n, hn, rfl⟩
    exact ⟨_, of_decide_eq_true (List.mem_filter.1 hn).2, rfl⟩
  · rintro ⟨i, hi, rfl⟩
    refine ⟨Shape.rowMajor _ i, List.mem_filter.2 ⟨List.mem_finRange _, decide_eq_true ?_⟩, ?_⟩ <;> rw [Equiv.symm_apply_apply]
    exact hi

/-- The arg-max along the last of three axes, of rows each with a single one in it, is that one's place. -/
theorem argmax_row {n0 n1 n2 : ℕ} {t u : Shape} (x : (⟨3, ![n0, n1, n2]⟩ : Shape).Idx → BitVec 8)
    (y : (⟨3, ![n0, n1, n2]⟩ : Shape).Idx → BitVec 32) (ix : u.Idx → BitVec 8) (iy : u.Idx → BitVec 32)
    (h : (⟨3, ![n0, n1, n2]⟩ : Shape).ReducesTo [2] t) (hu : 0 < u.numel) (j : t.Idx) (hix : ∀ i, ix i = 0#8) (k : BitVec 32)
    (hall : ∀ i, h.drop i = j → (x i, y i) = (1#8, k) ∨ x i = 0#8) (hone : ∃ i, h.drop i = j ∧ (x i, y i) = (1#8, k)) :
    Host.reduce2 reducer_argmax_i8_i32 x y ix iy h hu j = (1#8, k) := by
  rw [Host.reduce2_eq_foldl_fiber]
  refine argmax_fold k _ _ (.inr (hix _)) (fun p hp => ?_) (.inr ((mem_row x y h j _).2 hone))
  obtain ⟨i, hi, rfl⟩ := (mem_row x y h j _).1 hp
  exact hall i hi

/-- Where an index of the rows belongs: its first two coordinates. -/
theorem drop_iff {n0 n1 n2 : ℕ} (h : (⟨3, ![n0, n1, n2]⟩ : Shape).ReducesTo [2] ⟨2, ![n0, n1]⟩) (j : (⟨2, ![n0, n1]⟩ : Shape).Idx)
    (i : (⟨3, ![n0, n1, n2]⟩ : Shape).Idx) : h.drop i = j ↔ (i 0).val = (j 0).val ∧ (i 1).val = (j 1).val := by
  constructor
  · rintro rfl; exact ⟨rfl, rfl⟩
  · rintro ⟨h0, h1⟩
    funext a
    match a with | ⟨0, _⟩ => exact Fin.ext h0 | ⟨1, _⟩ => exact Fin.ext h1

/-- The arg-max along the last of three axes, of rows holding a one in place `k` and zeros elsewhere, over the places
    themselves, is `k`. -/
theorem argmax_place {n0 n1 n2 : ℕ} {u : Shape} (x : (⟨3, ![n0, n1, n2]⟩ : Shape).Idx → BitVec 8)
    (y : (⟨3, ![n0, n1, n2]⟩ : Shape).Idx → BitVec 32) (ix : u.Idx → BitVec 8) (iy : u.Idx → BitVec 32)
    (h : (⟨3, ![n0, n1, n2]⟩ : Shape).ReducesTo [2] ⟨2, ![n0, n1]⟩) (hu : 0 < u.numel) (j : (⟨2, ![n0, n1]⟩ : Shape).Idx)
    (hix : ∀ i, ix i = 0#8) (hy : ∀ i, y i = BitVec.ofNat 32 (i 2).val) {k : ℕ} (hk : k < n2)
    (hx : ∀ i, (i 0).val = (j 0).val → (i 1).val = (j 1).val → x i = if (i 2).val = k then 1#8 else 0#8) :
    (Host.reduce2 reducer_argmax_i8_i32 x y ix iy h hu j).2 = BitVec.ofNat 32 k := by
  have hall : ∀ i, h.drop i = j → (x i, y i) = (1#8, BitVec.ofNat 32 k) ∨ x i = 0#8 := fun i hi => by
    obtain ⟨h0, h1⟩ := (drop_iff h j i).1 hi
    rw [hx i h0 h1, hy]
    by_cases p : (i 2).val = k
    · exact .inl (by rw [if_pos p, p])
    · exact .inr (if_neg p)
  have hone : ∃ i, h.drop i = j ∧ (x i, y i) = (1#8, BitVec.ofNat 32 k) := by
    refine ⟨ix3 (j 0) (j 1) ⟨k, hk⟩, (drop_iff h j _).2 ⟨rfl, rfl⟩, ?_⟩
    rw [hx (ix3 (j 0) (j 1) ⟨k, hk⟩) rfl rfl, hy]
    exact Prod.ext (if_pos rfl) rfl
  rw [argmax_row x y ix iy h hu j hix (BitVec.ofNat 32 k) hall hone]

/-- The reference's answer, as the reduce it is. -/
theorem place_fun (x : FVec Ideal S8192x512 .f32) : place x = fun j =>
    (Host.reduce2 reducer_argmax_i8_i32 (member x) (iotaInDim S8192x512x64 32 2) (constantI S_ 8 0#8) (constantI S_ 32 0#32)
      reducesTo_S8192x512x64_S8192x512_d2 h_S_ j).2 := rfl

/-- The reference's answer at every element: its bin. -/
theorem place_apply (x : FVec Ideal S8192x512 .f32) (j : S8192x512.Idx) {r : ℝ} (e : clipped x j = (r : EReal)) (hl : low ≤ r)
    (hh : r ≤ high) : place x j = BitVec.ofNat 32 (bin r) :=
  (congrFun (place_fun x) j).trans
    (argmax_place (member x) (iotaInDim S8192x512x64 32 2) (constantI S_ 8 0#8) (constantI S_ 32 0#32)
      reducesTo_S8192x512x64_S8192x512_d2 h_S_ j (fun _ => rfl) (fun _ => rfl) (bin_lt hl hh)
      fun i h0 h1 => member_apply x i j h0 h1 e hl hh)

/-! ## The two answers -/

/-- The reference's answer is the kernel's token at every element. -/
theorem place_eq_token (x : FVec Ideal S8192x512 .f32) (j : S8192x512.Idx) :
    place x j = Cert.KernelIdeal.Run.token (F := Ideal) (x j) := by
  obtain ⟨r, e, hl, hh⟩ := clip_real (x j)
  rw [place_apply x j ((clipped_apply x j).trans e) hl hh]
  show _ = Ideal.fptosi 32 (min (max (x j) (Ideal.ofBits .f32 0x358637BD#32)) (Ideal.ofBits .f32 0x3F7FFFEF#32)
    * Ideal.ofBits .f32 0x42800000#32)
  rw [low_word, high_word, bins_word, max_comm, min_comm]
  exact (convert hl hh _ e).symm

end Cert.Bins

end
-- ==== Proof.lean ====
/-
  Every claim of `Cert.Claim`: the three programs run and leave their argument and their semaphores as they were, the
  idealized kernel is the kernel, and over the extended reals the kernel's result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kernel.Main
public import proofs.«01_k».proof.Proof.KernelIdeal.Main
public import proofs.«01_k».proof.Proof.ReferenceIdeal.Main
public import proofs.«01_k».proof.Proof.Bins

@[expose] public section

noncomputable section

namespace Cert.Proof

open Idealize.ShloMosaic Idealize.SL.Sem

/-- The kernel runs from every memory, leaves its argument as it was, and every semaphore at zero. -/
theorem frame_kernel : Cert.quiescent_Kernel := fun m g _ =>
  (θ_run (Cert.Kernel.defs (F := Bits)) _ _).mono (fun _ h => ⟨fun c => (h.1 c).1, h.2⟩) (Cert.Kernel.Run.run_main m g)

/-- The kernel over the extended reals runs from every memory, leaves its argument as it was, and every semaphore at zero. -/
theorem frame_ideal : Cert.quiescent_KernelIdeal := fun m g _ =>
  (θ_run (Cert.KernelIdeal.defs (F := Ideal)) _ _).mono (fun _ h => ⟨fun c => (h.1 c).1, h.2⟩) (Cert.KernelIdeal.Run.run_main m g)

/-- From equal arguments the kernel and the reference, over the extended reals, end with one result: every element's token. -/
theorem same_result : Cert.algebraic_KernelIdeal_ReferenceIdeal := fun m g m' g' _ hagree =>
  ⟨Cert.KernelIdeal.Run.answer m,
    (θ_run (Cert.KernelIdeal.defs (F := Ideal)) _ _).mono (fun _ h c => ⟨(h.1 c).2, (h.1 c).1⟩) (Cert.KernelIdeal.Run.run_main m g),
    θ_run_mono (Cert.ReferenceIdeal.Run.run_place m' g') fun _ h c =>
      ⟨(h c).1.trans (by
        rw [hagree c]
        exact funext fun j => Cert.Bins.place_eq_token _ j), (h c).2⟩⟩

/-- Every claim. -/
theorem claim : Cert.Claim :=
  ⟨Cert.Kernel.Gen.facts, Cert.KernelIdeal.Gen.facts, Cert.ReferenceIdeal.Gen.facts,
    frame_kernel, frame_ideal, Cert.ReferenceIdeal.Run.frame, trivial, same_result⟩

end Cert.Proof

end
